-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_gam [hPre_finite_x_gam : Cert.Pre_finite_x_gam.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_gam.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_x_gam.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_gam [hPre_finite_x_gam : Cert.Pre_finite_x_gam.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_gam.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_x_gam.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_gam [hKernelIdeal : Cert.KernelIdeal.Facts] [hPre_finite_x_gam : Cert.Pre_finite_x_gam.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_gam m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_gam [hReferenceIdeal : Cert.ReferenceIdeal.Facts] [hPre_finite_x_gam : Cert.Pre_finite_x_gam.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_gam m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_gam [hKernelIdeal : Cert.KernelIdeal.Facts] [hReferenceIdeal : Cert.ReferenceIdeal.Facts] [hPre_finite_x_gam : Cert.Pre_finite_x_gam.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_gam m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_gam : Cert.Pre_finite_x_gam.Facts),
    quiescent_Kernel (hKernel := hKernel)
    ∧ quiescent_KernelIdeal (hKernelIdeal := hKernelIdeal)
    ∧ quiescent_KernelIdeal_pre_finite_x_gam (hKernelIdeal := hKernelIdeal) (hPre_finite_x_gam := hPre_finite_x_gam)
    ∧ quiescent_ReferenceIdeal (hReferenceIdeal := hReferenceIdeal)
    ∧ quiescent_ReferenceIdeal_pre_finite_x_gam (hReferenceIdeal := hReferenceIdeal) (hPre_finite_x_gam := hPre_finite_x_gam)
    ∧ preserves_Kernel_KernelIdeal
    ∧ algebraic_KernelIdeal_ReferenceIdeal_pre_finite_x_gam (hKernelIdeal := hKernelIdeal) (hReferenceIdeal := hReferenceIdeal) (hPre_finite_x_gam := hPre_finite_x_gam)
-- ==== Pre_finite_x_gam.lean ====
abbrev S8192x512x64 : Shape := ⟨3, ![8192, 512, 64]⟩
abbrev S64x128 : Shape := ⟨2, ![64, 128]⟩
abbrev S_ : Shape := ⟨0, ![]⟩

class Facts : Prop where
  bcast_S_S8192x512x64 : S_.BroadcastsInDim S8192x512x64 (![] : Fin 0 → Fin S8192x512x64.rank)
  bcast_S_S64x128 : S_.BroadcastsInDim S64x128 (![] : Fin 0 → Fin S64x128.rank)

variable [Facts]

def fn {F : FTy → Type} [FloatOps F] (main_arg0 : FVec F S8192x512x64 .f32) (main_arg1 : FVec F S64x128 .f32) (main_arg2 : FVec F S64x128 .f32) : IVec S8192x512x64 1 × IVec S64x128 1 :=
  let main_v0 : FVec F S8192x512x64 .f32 := Host.absf main_arg0
  let main_cst : FVec F S_ .f32 := constant S_ .f32 0x7F800000#32
  let main_v1 : FVec F S8192x512x64 .f32 := broadcastInDim S8192x512x64 ![] bcast_S_S8192x512x64 main_cst
  let main_v2 : IVec S8192x512x64 1 := cmpf .olt main_v0 main_v1
  let main_v3 : FVec F S64x128 .f32 := Host.absf main_arg2
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  (main_v2, main_v5)
-- ==== Kernel.lean ====
abbrev S8192x512x64 : Shape := ⟨3, ![8192, 512, 64]⟩
abbrev S64x128 : Shape := ⟨2, ![64, 128]⟩
abbrev S8192x64x512 : Shape := ⟨3, ![8192, 64, 512]⟩
abbrev S128x128 : Shape := ⟨2, ![128, 128]⟩
abbrev S8192x512x128 : Shape := ⟨3, ![8192, 512, 128]⟩
abbrev S32x64x512 : Shape := ⟨3, ![32, 64, 512]⟩
abbrev S32x512x128 : Shape := ⟨3, ![32, 512, 128]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 7
  | .vmem => 5
  | .smem => 0
  | _ => 0

abbrev bufTy : (tb : Table) → Fin (tcTables nBuf tb) → BufTy
  | .hbm, ⟨0, _⟩ => ⟨S8192x512x64, .f32⟩
  | .hbm, ⟨1, _⟩ => ⟨S64x128, .f32⟩
  | .hbm, ⟨2, _⟩ => ⟨S64x128, .f32⟩
  | .hbm, ⟨3, _⟩ => ⟨S8192x64x512, .f32⟩
  | .hbm, ⟨4, _⟩ => ⟨S64x128, .f32⟩
  | .hbm, ⟨5, _⟩ => ⟨S128x128, .f32⟩
  | .hbm, ⟨6, _⟩ => ⟨S8192x512x128, .f32⟩
  | .local _ .vmem, ⟨0, _⟩ => ⟨S32x64x512, .f32⟩
  | .local _ .vmem, ⟨1, _⟩ => ⟨S32x64x512, .f32⟩
  | .local _ .vmem, ⟨2, _⟩ => ⟨S128x128, .f32⟩
  | .local _ .vmem, ⟨3, _⟩ => ⟨S32x512x128, .f32⟩
  | .local _ .vmem, ⟨4, _⟩ => ⟨S32x512x128, .f32⟩
  | _, _ => ⟨S8192x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x512x64 : Shape := ⟨3, ![8192, 512, 64]⟩
abbrev S64x128 : Shape := ⟨2, ![64, 128]⟩
abbrev S8192x512x128 : Shape := ⟨3, ![8192, 512, 128]⟩
abbrev S_ : Shape := ⟨0, ![]⟩
abbrev S8192x64 : Shape := ⟨2, ![8192, 64]⟩
abbrev S8192x128 : Shape := ⟨2, ![8192, 128]⟩
abbrev S8192x1x128 : Shape := ⟨3, ![8192, 1, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x512x64, .f32⟩
  | .hbm, ⟨1, _⟩ => ⟨S64x128, .f32⟩
  | .hbm, ⟨2, _⟩ => ⟨S64x128, .f32⟩
  | .hbm, ⟨3, _⟩ => ⟨S8192x512x128, .f32⟩
  | .hbm, ⟨4, _⟩ => ⟨S_, .f32⟩
  | .hbm, ⟨5, _⟩ => ⟨S8192x64, .f32⟩
  | .hbm, ⟨6, _⟩ => ⟨S8192x128, .f32⟩
  | .hbm, ⟨7, _⟩ => ⟨S8192x1x128, .f32⟩
  | .hbm, ⟨8, _⟩ => ⟨S8192x512x128, .f32⟩
  | .hbm, ⟨9, _⟩ => ⟨S8192x512x128, .f32⟩
  | .hbm, ⟨10, _⟩ => ⟨S_, .f32⟩
  | .hbm, ⟨11, _⟩ => ⟨S8192x512x128, .f32⟩
  | .hbm, ⟨12, _⟩ => ⟨S8192x512x128, .f32⟩
  | _, _ => ⟨S8192x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Layer.Algebra.lean ====
/-
  The arithmetic of the equation.  The kernel adds the products of the particle sums with the negated `gam`; the reference
  subtracts the sum of their products with `gam`.  On the extended reals the two differ when the products mix the two
  infinities, and agree when the particle sums and `gam` are finite (`add_sum_mul_neg`).
-/
module

public import Mathlib.Data.EReal.Operations
public import Mathlib.Algebra.BigOperators.Fin

@[expose] public section

noncomputable section

namespace Cert.Layer

/-- A value is finite: it is a real number. -/
def Finite (a : EReal) : Prop := ∃ r : ℝ, a = r

/-- A value whose absolute value is under infinity is finite. -/
theorem finite_of_abs_lt {a : EReal} (h : max a (-a) < ⊤) : Finite a := by
  induction a using EReal.rec with
  | bot => simp at h
  | coe r => exact ⟨r, rfl⟩
  | top => simp at h

/-- A sum of finite values is finite. -/
theorem finite_sum {ι : Type} (s : Finset ι) (g : ι → EReal) (h : ∀ i, Finite (g i)) : Finite (∑ i ∈ s, g i) := by
  classical
  choose r hr using h
  induction s using Finset.induction_on with
  | empty => exact ⟨0, by simp⟩
  | insert i s hi ih =>
    obtain ⟨t, ht⟩ := ih
    exact ⟨r i + t, by rw [Finset.sum_insert hi, ht, hr, EReal.coe_add]⟩

/-- The negation of a sum of finite values is the sum of the negations. -/
theorem sum_neg {ι : Type} (s : Finset ι) (g : ι → EReal) (h : ∀ i, Finite (g i)) :
    ∑ i ∈ s, -g i = -∑ i ∈ s, g i := by
  classical
  induction s using Finset.induction_on with
  | empty => simp
  | insert i s hi ih =>
    obtain ⟨a, ha⟩ := h i
    obtain ⟨t, ht⟩ := finite_sum s g h
    rw [Finset.sum_insert hi, Finset.sum_insert hi, ih, ha, ht, ← EReal.coe_neg, ← EReal.coe_neg, ← EReal.coe_add,
      ← EReal.coe_add, ← EReal.coe_neg]
    exact congrArg _ (by ring)

/-- Adding the products of finite `s` with the negated finite `g` is subtracting their products with `g`, whatever they
    are added to. -/
theorem add_sum_mul_neg {ι : Type} [Fintype ι] (a : EReal) (s g : ι → EReal) (hs : ∀ i, Finite (s i)) (hg : ∀ i, Finite (g i)) :
    a + ∑ i, s i * -g i = a - ∑ i, s i * g i := by
  have hp : ∀ i, Finite (s i * g i) := fun i => by
    obtain ⟨u, hu⟩ := hs i
    obtain ⟨v, hv⟩ := hg i
    exact ⟨u * v, by rw [hu, hv, EReal.coe_mul]⟩
  rw [sub_eq_add_neg, ← sum_neg _ _ hp]
  exact congrArg (a + ·) (Finset.sum_congr rfl fun i _ => mul_neg (s i) (g i))

end Cert.Layer

end
-- ==== Proof.Layer.Sample.lean ====
/-
  One sample of the body at the ideal values.  The body handles 32 samples per grid point, each by the same operations: the
  [64, 512] block `v` of the sample (features by particles), its row sums repeated along the particles and put under it, one
  128-deep product with the stacked weights `w`, and the clamp at zero.  `sample_apply` reads the result at an index.
-/
module

public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.Layer

open Cert.KernelIdeal Cert.KernelIdeal.Gen Idealize.ShloMosaic Idealize.ShloMosaic.ValueIdx

/-- What the body stores for one sample, from the weights' block and the sample's block: every one of the 32 stores
    holds this function of its own sample. -/
def sample {F : FTy → Type} [FloatOps F] (w : Vec F S128x128 .f32) (v : Vec F S1x64x512 .f32) : FVec F S1x512x128 .f32 :=
  k0_pay1 (k0_pay2 w) v

/-- The left operand of the product: the sample over its row sums repeated along the particles. -/
def stacked {F : FTy → Type} [FloatOps F] (v : Vec F S1x64x512 .f32) : FVec F S128x512 .f32 :=
  concatenate S128x512 0 [⟨S64x512, shapeCast S64x512 v shapeCasts_S1x64x512_S64x512⟩,
    ⟨S64x512, broadcastTo S64x512 (shapeCast S64x1 (shapeCast S64x1 (multiReduction .add [1] S64
      (shapeCast S64x512 v shapeCasts_S1x64x512_S64x512) 0x00000000#32 reduces_S64x512_S64 (.inl rfl) rfl)
      shapeCasts_S64_S64x1) shapeCasts_S64x1_S64x1) broadcasts_S64x1_S64x512⟩] concatenates_S64x512_S64x512_S128x512_d0

/-- The dimension numbers of the body's product. -/
abbrev dims : DotDims S128x512 S128x128 S512x128 := dot_S128x512_S128x128_S512x128_0_0_1_1_n_n

/-- `sample`, its operations written out around `stacked`. -/
theorem sample_eq {F : FTy → Type} [FloatOps F] (w : Vec F S128x128 .f32) (v : Vec F S1x64x512 .f32) :
    sample w v = shapeCast S1x512x128 (maximumf (matmul dims none (stacked v)
        (shapeCast S128x128 w shapeCasts_S128x128_S128x128) (constant S512x128 .f32 0x00000000#32))
        (broadcast S512x128 (Scalar.ofBits .f32 0x00000000#32))) shapeCasts_S512x128_S1x512x128 := rfl

/-! ## The product's operand indices -/

theorem lhs_row (j : S512x128.Idx) (q : dims.contr.Idx) : (dims.lhsIdx j q 0).val = (q ⟨0, by decide⟩).val :=
  dims.lhsIdx_val_of_single rfl j q

theorem lhs_col (j : S512x128.Idx) (q : dims.contr.Idx) : (dims.lhsIdx j q 1).val = (j 0).val := by
  unfold DotDims.lhsIdx
  rw [dif_neg (show ¬(1 : Fin S128x512.rank) ∈ dims.lhsBatch by decide),
    dif_pos (show (1 : Fin S128x512.rank) ∈ dims.lhsNonContracting by decide)]
  rfl

theorem rhs_row (j : S512x128.Idx) (q : dims.contr.Idx) : (dims.rhsIdx j q 0).val = (q ⟨0, by decide⟩).val :=
  dims.rhsIdx_val_of_single rfl j q

theorem rhs_col (j : S512x128.Idx) (q : dims.contr.Idx) : (dims.rhsIdx j q 1).val = (j 1).val := by
  unfold DotDims.rhsIdx
  rw [dif_neg (show ¬(1 : Fin S128x128.rank) ∈ dims.rhsBatch by decide),
    dif_pos (show (1 : Fin S128x128.rank) ∈ dims.rhsNonContracting by decide)]
  rfl

/-- The product into the zero block, read at particle `p` and output `o`: the sum over the 128 stacked rows. -/
theorem product_apply (a : FVec Ideal S128x512 .f32) (w : FVec Ideal S128x128 .f32) (p : Fin 512) (o : Fin 128) :
    matmul dims none a w (constant S512x128 .f32 0x00000000#32) (ix2 p o)
      = ∑ k : Fin 128, a (ix2 k p) * w (ix2 k o) := by
  refine (Ideal.matmul_constant_zero_apply dims none a w (ix2 p o)).trans ?_
  rw [← Equiv.sum_comp (contrEquiv1 dims 128 rfl rfl).symm]
  refine Finset.sum_congr rfl fun k _ => ?_
  have hk := contrEquiv1_symm_val dims 128 rfl rfl k
  congr 1
  · refine congrArg a (funext fun b => Fin.ext ?_)
    match b with
    | ⟨0, _⟩ => exact (lhs_row _ _).trans hk
    | ⟨1, _⟩ => exact lhs_col _ _
  · refine congrArg w (funext fun b => Fin.ext ?_)
    match b with
    | ⟨0, _⟩ => exact (rhs_row _ _).trans hk
    | ⟨1, _⟩ => exact rhs_col _ _

/-! ## The stacked operand -/

/-- The sample without its unit axis, read at feature `f` and particle `p`. -/
theorem dropped_apply (v : Vec Ideal S1x64x512 .f32) (f : Fin 64) (p : Fin 512) :
    shapeCast S64x512 v shapeCasts_S1x64x512_S64x512 (ix2 f p) = v (ix3 0 f p) := by
  refine (shapeCast_dropUnit_apply ![64, 512] v shapeCasts_S1x64x512_S64x512 (ix2 f p)).trans ?_
  exact congrArg v (funext fun b => by match b with | ⟨0, _⟩ => rfl | ⟨1, _⟩ => rfl | ⟨2, _⟩ => rfl)

/-- The sum of row `f` of a block over its 512 particles. -/
theorem rowSum_apply (x : FVec Ideal S64x512 .f32) (f : Fin 64) :
    multiReduction .add [1] S64 x 0x00000000#32 reduces_S64x512_S64 (.inl rfl) rfl (ix1 f)
      = ∑ q : Fin 512, x (ix2 f q) := by
  refine (Ideal.multiReduction_add_single x _ reduces_S64x512_S64 (.inl rfl) rfl (ix1 f)).trans ?_
  refine Finset.sum_congr rfl fun q _ => congrArg x (funext fun b => Fin.ext ?_)
  match b with
  | ⟨0, _⟩ => rfl
  | ⟨1, _⟩ => rfl

/-- The first 64 stacked rows are the sample. -/
theorem stacked_top (v : Vec Ideal S1x64x512 .f32) (f : Fin 64) (p : Fin 512) :
    stacked v (ix2 (Fin.castAdd 64 f) p) = v (ix3 0 f p) := by
  unfold stacked
  refine (concatenate_pair_apply_left (t := S128x512) (s₁ := S64x512) (s₂ := S64x512) 0 _ _ _ _ rfl
    (ix2 f p) (fun b => ?_)).trans (dropped_apply v f p)
  match b with
  | ⟨0, _⟩ => rfl
  | ⟨1, _⟩ => rfl

/-- The last 64 stacked rows are the sample's row sums, the same at every particle. -/
theorem stacked_bottom (v : Vec Ideal S1x64x512 .f32) (f : Fin 64) (p : Fin 512) :
    stacked v (ix2 (Fin.natAdd 64 f) p) = ∑ q : Fin 512, v (ix3 0 f q) := by
  unfold stacked
  refine (concatenate_pair_apply_right (t := S128x512) (s₁ := S64x512) (s₂ := S64x512) 0 _ _ _ _ rfl rfl
    (ix2 f p) (fun b hb => ?_) ?_).trans ?_
  · match b with
    | ⟨0, _⟩ => exact absurd rfl hb
    | ⟨1, _⟩ => rfl
  · show f.val + 64 = 64 + f.val
    omega
  refine (broadcastTo_apply _ _ _ (ix2 f 0) (fun b => ?_)).trans ?_
  · match b with
    | ⟨0, _⟩ => rfl
    | ⟨1, _⟩ => rfl
  rw [shapeCast_self]
  refine (shapeCast_apply _ _ _ (ix1 f) ?_).trans ?_
  · rw [Shape.rowMajor_val_one, Shape.rowMajor_val_two]
    show f.val = f.val * 1 + 0
    omega
  exact (rowSum_apply _ f).trans (Finset.sum_congr rfl fun q _ => dropped_apply v f q)

/-! ## The sample's result -/

/-- One sample's result at particle `p` and output `o`: the particle's row against the first 64 weight rows, plus the
    sample's particle sums against the last 64, clamped at zero. -/
theorem sample_apply (w : Vec Ideal S128x128 .f32) (v : Vec Ideal S1x64x512 .f32) (u : Fin 1) (p : Fin 512) (o : Fin 128) :
    sample w v (ix3 u p o)
      = max ((∑ f : Fin 64, v (ix3 0 f p) * w (ix2 (Fin.castAdd 64 f) o))
          + ∑ f : Fin 64, (∑ q : Fin 512, v (ix3 0 f q)) * w (ix2 (Fin.natAdd 64 f) o)) 0 := by
  rw [sample_eq]
  refine (shapeCast_addUnit_apply ![512, 128] _ shapeCasts_S512x128_S1x512x128 (ix3 u p o)).trans ?_
  rw [show (fun a : Fin 2 => ix3 u p o a.succ) = ix2 p o from funext fun b => by
    match b with | ⟨0, _⟩ => rfl | ⟨1, _⟩ => rfl]
  refine (maximumf_apply _ _ _).trans ?_
  refine congrArg₂ max ?_ Ideal.ofBits_zero_f32
  rw [shapeCast_self]
  refine (product_apply (stacked v) w p o).trans ?_
  refine (Fin.sum_univ_add (a := 64) (b := 64) (fun k : Fin (64 + 64) => stacked v (ix2 k p) * w (ix2 k o))).trans ?_
  exact congrArg₂ (· + ·) (Finset.sum_congr rfl fun f _ => by rw [stacked_top])
    (Finset.sum_congr rfl fun f _ => by rw [stacked_bottom])

end Cert.Layer

end
-- ==== Proof.Layer.Block.lean ====
/-
  One grid point's block at the ideal values.  The body's 32 stores tile the [32, 512, 128] output block by samples, and each
  store holds `sample` of its own sample; so the block is one function of its index (`block_eq`).
-/
module

public import proofs.«01_k».proof.Proof.Gen.KernelIdeal.Frame
public import Idealize.ShloMosaic.Lib.Pipeline.ValueKit.Tiles
public import proofs.«01_k».proof.Proof.Layer.Sample

@[expose] public section

noncomputable section

namespace Cert.Layer

open Cert.KernelIdeal Cert.KernelIdeal.Gen Idealize.ShloMosaic Idealize.ShloMosaic.ValueIdx

/-- The layer on `n` samples laid out features by particles: at sample `b`, particle `p`, output `o`, the particle's row
    against the first 64 rows of `w` plus the sample's particle sums against the last 64, clamped at zero. -/
def layer {n : Nat} (x : (⟨3, ![n, 64, 512]⟩ : Shape).Idx → EReal) (w : S128x128.Idx → EReal)
    (b : Fin n) (p : Fin 512) (o : Fin 128) : EReal :=
  max ((∑ f : Fin 64, x (ix3 b f p) * w (ix2 (Fin.castAdd 64 f) o))
    + ∑ f : Fin 64, (∑ q : Fin 512, x (ix3 b f q)) * w (ix2 (Fin.natAdd 64 f) o)) 0

/-- The block of the layer over a 32-sample block `x` and the weights' block `w`. -/
def block (x : Vec Ideal S32x64x512 .f32) (w : Vec Ideal S128x128 .f32) : Vec Ideal S32x512x128 .f32 :=
  fun y => layer (n := 32) x w (y 0) (y 1) (y 2)

/-- The store at sample `b`, for any `b`: `sample` of the loaded sample, read at a local index, is the layer's block at the
    store's place. -/
theorem piece_apply (x : Vec Ideal S32x64x512 .f32) (w : Vec Ideal S128x128 .f32) (b : Nat) (hb : b < 32)
    (inl : ∀ a, (![b, 0, 0] : Fin 3 → Nat) a + S1x64x512.size a ≤ S32x64x512.size a)
    (ins : ∀ a, (![b, 0, 0] : Fin 3 → Nat) a + S1x512x128.size a ≤ S32x512x128.size a) (j : S1x512x128.Idx) :
    sample (View.ld w r0_0) (View.ld x (Rect.unit (s := S32x64x512) ![b, 0, 0] S1x64x512.size inl)) j
      = block x w ((Rect.unit (s := S32x512x128) ![b, 0, 0] S1x512x128.size ins).emb j) := by
  have hw : View.ld w r0_0 = w := View.ld_unit_zero (funext fun a => by fin_cases a <;> rfl) _ w
  have hx : ∀ (f : Fin 64) (p : Fin 512),
      View.ld x (Rect.unit (s := S32x64x512) ![b, 0, 0] S1x64x512.size inl) (ix3 0 f p) = x (ix3 ⟨b, hb⟩ f p) := by
    intro f p
    refine View.ld_unit_apply_of x _ _ inl _ _ fun a => ?_
    match a with
    | ⟨0, _⟩ => rfl
    | ⟨1, _⟩ => exact (Nat.zero_add _).symm
    | ⟨2, _⟩ => exact (Nat.zero_add _).symm
  have hy : (Rect.unit (s := S32x512x128) ![b, 0, 0] S1x512x128.size ins).emb j = ix3 ⟨b, hb⟩ (j 1) (j 2) := by
    refine funext fun a => Fin.ext ?_
    refine (Rect.idx_unit_val (s := S32x512x128) ![b, 0, 0] S1x512x128.size ins j a).trans ?_
    have h0 : (j 0).val < 1 := (j 0).isLt
    match a with
    | ⟨0, _⟩ => show b + (j 0).val = b; omega
    | ⟨1, _⟩ => exact Nat.zero_add _
    | ⟨2, _⟩ => exact Nat.zero_add _
  rw [hw, hy]
  generalize View.ld x (Rect.unit (s := S32x64x512) ![b, 0, 0] S1x64x512.size inl) = v at hx ⊢
  refine (congrArg (sample w v) (eq_ix3 j)).trans ((sample_apply w v (j 0) (j 1) (j 2)).trans ?_)
  show _ = layer (n := 32) x w ⟨b, hb⟩ (j 1) (j 2)
  unfold layer
  refine congrArg₂ max (congrArg₂ (· + ·) (Finset.sum_congr rfl fun f _ => ?_) (Finset.sum_congr rfl fun f _ => ?_)) rfl
  · exact congrArg (· * _) (hx f (j 1))
  · exact congrArg (· * _) (Finset.sum_congr rfl fun q _ => hx f q)

/-- What the body leaves in the output block, whatever the two input blocks hold. -/
theorem block_eq (x : Vec Ideal S32x64x512 .f32) (w : Vec Ideal S128x128 .f32) : out0_2 x w = block x w := by
  funext y
  unfold out0_2
  refine View.canon_apply_of_pieces (block x w) _ ?_ y (cover0_2 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (intro j; exact piece_apply x w _ (by decide) (by decide) (by decide) j)

end Cert.Layer

end
-- ==== Proof.Layer.Whole.lean ====
/-
  The kernel's result array at the ideal values.  Grid point `t` reads samples 32·t … 32·t+31 of the transposed input and the
  whole stacked weights, and writes the same samples' rows of the result; the 256 points cover the array (`final`).  With the
  two arrays the host operations before the region build (`entry_input`, `entry_weights`) the run is read from the arguments
  alone (`run`).
-/
module

public import proofs.«01_k».proof.Proof.Gen.KernelIdeal.Value
public import proofs.«01_k».proof.Proof.Layer.Block

@[expose] public section

noncomputable section

namespace Cert.Layer

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The windows' places -/

/-- Point `t` stages the input's block `t` along the samples, whole along features and particles. -/
theorem place_input : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Every point stages the whole of the weights. -/
theorem place_weights : ∀ t : Fin cfg0.N, win0_1.index t 0 = 0 ∧ win0_1.index t 1 = 0 :=
  (by decide +kernel : ∀ t : Fin grid0.N, win0_1.index t 0 = 0 ∧ win0_1.index t 1 = 0)

/-- Point `t` writes the result's block `t` along the samples, whole along particles and outputs. -/
theorem place_result : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The array's sample that point `t` handles at place `b` of its block. -/
def sampleAt (t : Fin cfg0.N) (b : Fin 32) : Fin 8192 :=
  ⟨t.val * 32 + b.val, by have := t.isLt; have hN : cfg0.N = 256 := N_0; omega⟩

/-- The input's block at point `t`, read at a sample's place, feature and particle. -/
theorem input_block (c : Dev nD) (t : Fin cfg0.N) (b : Fin 32) (f : Fin 64) (p : Fin 512) :
    (iblk m c 0 t : Vec Ideal S32x64x512 .f32) (ix3 b f p)
      = (V m c main_v0 : Vec Ideal S8192x64x512 .f32) (ix3 (sampleAt t b) f p) := by
  have hi := place_input t
  unfold iblk
  rw [View.read_apply]
  show (V m c main_v0 : Vec Ideal S8192x64x512 .f32) _ = _
  refine congrArg (V m c main_v0 : Vec Ideal S8192x64x512 .f32) (funext fun a => Fin.ext ?_)
  match a with
  | ⟨0, _⟩ => show win0_0.index t 0 * 32 + 1 * b.val = t.val * 32 + b.val; rw [hi.1]; omega
  | ⟨1, _⟩ => show win0_0.index t 1 * 64 + 1 * f.val = f.val; rw [hi.2.1]; omega
  | ⟨2, _⟩ => show win0_0.index t 2 * 512 + 1 * p.val = p.val; rw [hi.2.2]; omega

/-- The weights' block at any point is the stacked weights. -/
theorem weights_block (c : Dev nD) (t : Fin cfg0.N) (k o : Fin 128) :
    (iblk m c 1 t : Vec Ideal S128x128 .f32) (ix2 k o) = (V m c main_v2 : Vec Ideal S128x128 .f32) (ix2 k o) := by
  have hi := place_weights t
  unfold iblk
  rw [View.read_apply]
  show (V m c main_v2 : Vec Ideal S128x128 .f32) _ = _
  refine congrArg (V m c main_v2 : Vec Ideal S128x128 .f32) (funext fun a => Fin.ext ?_)
  match a with
  | ⟨0, _⟩ => show win0_1.index t 0 * 128 + 1 * k.val = k.val; rw [hi.1]; omega
  | ⟨1, _⟩ => show win0_1.index t 1 * 128 + 1 * o.val = o.val; rw [hi.2]; omega

/-! ## The result array -/

/-- The layer over the whole transposed input and the stacked weights. -/
def whole (c : Dev nD) : Vec Ideal S8192x512x128 .f32 :=
  fun i => layer (n := 8192) (V m c main_v0) (V m c main_v2) (i 0) (i 1) (i 2)

/-- What point `t` writes back is block `t` of the layer. -/
theorem flushed_eq (c : Dev nD) (t : Fin cfg0.N) (_ : (cfg0.win 2).flush t = true) :
    (dats m 0 c).flushed 2 t = ((cfg0.win 2).blk t).view.read (Elt Ideal) (whole m c) := by
  have hi := place_result t
  rw [Cert.KernelIdeal.Value.flushed2, block_eq]
  funext j
  rw [View.read_apply]
  have hj : (((cfg0.win 2).blk t).view.emb j : S8192x512x128.Idx) = ix3 (sampleAt t (j 0)) (j 1) (j 2) := by
    refine funext fun a => Fin.ext ?_
    match a with
    | ⟨0, _⟩ => show win0_2.index t 0 * 32 + 1 * (j 0).val = t.val * 32 + (j 0).val; rw [hi.1]; omega
    | ⟨1, _⟩ => show win0_2.index t 1 * 512 + 1 * (j 1).val = (j 1).val; rw [hi.2.1]; omega
    | ⟨2, _⟩ => show win0_2.index t 2 * 128 + 1 * (j 2).val = (j 2).val; rw [hi.2.2]; omega
  refine Eq.trans ?_ (congrArg (whole m c) hj).symm
  show layer (n := 32) (iblk m c 0 t) (iblk m c 1 t) (j 0) (j 1) (j 2)
    = layer (n := 8192) (V m c main_v0) (V m c main_v2) (sampleAt t (j 0)) (j 1) (j 2)
  unfold layer
  refine congrArg₂ max (congrArg₂ (· + ·) (Finset.sum_congr rfl fun f _ => ?_) (Finset.sum_congr rfl fun f _ => ?_)) rfl
  · exact congrArg₂ (· * ·) (input_block m c t (j 0) f (j 1)) (weights_block m c t (Fin.castAdd 64 f) (j 2))
  · exact congrArg₂ (· * ·) (Finset.sum_congr rfl fun q _ => input_block m c t (j 0) f q)
      (weights_block m c t (Fin.natAdd 64 f) (j 2))

/-- After the run the result array is the layer everywhere: sample `b` was written by point `b / 32`. -/
theorem final (c : Dev nD) : (dats m 0 c).arrAt 2 cfg0.N = whole m c :=
  (dats m 0 c).arrAt_eq_of_cover 2 (whole m c) (flushed_eq m c) fun i => by
    have h0 : (i 0 : Nat) < 8192 := (i 0).isLt
    have h1 : (i 1 : Nat) < 512 := (i 1).isLt
    have h2 : (i 2 : Nat) < 128 := (i 2).isLt
    have hN : cfg0.N = 256 := N_0
    refine ⟨⟨(i 0 : Nat) / 32, by omega⟩, flush0_2 _, ?_⟩
    generalize ht : (⟨(i 0 : Nat) / 32, _⟩ : Fin cfg0.N) = t
    have htv : t.val = (i 0 : Nat) / 32 := by rw [← ht]
    have hi := place_result t
    show i ∈ ((View.whole main_v3).slice (win0_2.rect t)).set
    rw [View.set_slice_whole, Rect.mem_set_unit]
    intro a
    match a with
    | ⟨0, _⟩ =>
      show win0_2.index t 0 * 32 ≤ (i 0 : Nat) ∧ (i 0 : Nat) < win0_2.index t 0 * 32 + 32
      rw [hi.1]; omega
    | ⟨1, _⟩ =>
      show win0_2.index t 1 * 512 ≤ (i 1 : Nat) ∧ (i 1 : Nat) < win0_2.index t 1 * 512 + 512
      rw [hi.2.1]; omega
    | ⟨2, _⟩ =>
      show win0_2.index t 2 * 128 ≤ (i 2 : Nat) ∧ (i 2 : Nat) < win0_2.index t 2 * 128 + 128
      rw [hi.2.2]; omega

/-! ## The arrays the region starts with -/

/-- The transposed input: feature `f` and particle `p` of a sample are the argument's particle `p` and feature `f`. -/
theorem entry_input (c : Dev nD) (b : Fin 8192) (f : Fin 64) (p : Fin 512) :
    (V m c main_v0 : Vec Ideal S8192x64x512 .f32) (ix3 b f p)
      = (m ((c : Thread nD τ).loc main_arg0) : Vec Ideal S8192x512x64 .f32) (ix3 b p f) := by
  have h : (V m c main_v0 : Vec Ideal S8192x64x512 .f32) = transpose S8192x64x512 [0, 2, 1]
      (m ((c : Thread nD τ).loc main_arg0) : Vec Ideal S8192x512x64 .f32) transposes_S8192x512x64_S8192x64x512_0_2_1 := by
    unfold V hostOps0
    after_results
  rw [h]
  refine transpose_apply _ _ _ _ (ix3 b p f) fun a => ?_
  match a with
  | ⟨0, _⟩ => rfl
  | ⟨1, _⟩ => rfl
  | ⟨2, _⟩ => rfl

/-- The stacked weights the host builds: `lam` over `gam` negated. -/
def stackedWeights (lam gam : FVec Ideal S64x128 .f32) : FVec Ideal S128x128 .f32 :=
  concatenate S128x128 0 [⟨S64x128, lam⟩, ⟨S64x128, Host.negf gam⟩] concatenates_S64x128_S64x128_S128x128_d0

/-- The region starts with the weights stacked. -/
theorem entry_weights (c : Dev nD) : (V m c main_v2 : Vec Ideal S128x128 .f32)
    = stackedWeights (m ((c : Thread nD τ).loc main_arg1)) (m ((c : Thread nD τ).loc main_arg2)) := by
  unfold V hostOps0 stackedWeights
  after_results

/-- The first 64 stacked rows are `lam`. -/
theorem weights_top (lam gam : FVec Ideal S64x128 .f32) (f : Fin 64) (o : Fin 128) :
    stackedWeights lam gam (ix2 (Fin.castAdd 64 f) o) = lam (ix2 f o) := by
  unfold stackedWeights
  refine concatenate_pair_apply_left (t := S128x128) (s₁ := S64x128) (s₂ := S64x128) 0 _ _ _ _ rfl (ix2 f o) fun b => ?_
  match b with
  | ⟨0, _⟩ => rfl
  | ⟨1, _⟩ => rfl

/-- The last 64 stacked rows are `gam` negated. -/
theorem weights_bottom (lam gam : FVec Ideal S64x128 .f32) (f : Fin 64) (o : Fin 128) :
    stackedWeights lam gam (ix2 (Fin.natAdd 64 f) o) = (-gam (ix2 f o) : EReal) := by
  unfold stackedWeights
  refine (concatenate_pair_apply_right (t := S128x128) (s₁ := S64x128) (s₂ := S64x128) 0 _ _ _ _ rfl rfl
    (ix2 f o) (fun b hb => ?_) ?_).trans rfl
  · match b with
    | ⟨0, _⟩ => exact absurd rfl hb
    | ⟨1, _⟩ => rfl
  · show f.val + 64 = 64 + f.val
    omega

/-! ## The run, read from the arguments -/

/-- The kernel's result as a function of its arguments, at sample `b`, particle `p`, output `o`. -/
def kernelAt (x : S8192x512x64.Idx → EReal) (lam gam : S64x128.Idx → EReal) (b : Fin 8192) (p : Fin 512) (o : Fin 128) : EReal :=
  max ((∑ f : Fin 64, x (ix3 b p f) * lam (ix2 f o))
    + ∑ f : Fin 64, (∑ q : Fin 512, x (ix3 b q f)) * -gam (ix2 f o)) 0

/-- The layer over the host's arrays is `kernelAt` of the arguments. -/
theorem whole_apply (c : Dev nD) (i : S8192x512x128.Idx) : whole m c i
    = kernelAt (m ((c : Thread nD τ).loc main_arg0)) (m ((c : Thread nD τ).loc main_arg1))
        (m ((c : Thread nD τ).loc main_arg2)) (i 0) (i 1) (i 2) := by
  unfold whole layer kernelAt
  rw [entry_weights]
  refine congrArg₂ max (congrArg₂ (· + ·) (Finset.sum_congr rfl fun f _ => ?_) (Finset.sum_congr rfl fun f _ => ?_)) rfl
  · exact congrArg₂ (· * ·) (entry_input m c (i 0) f (i 1)) (weights_top _ _ f (i 2))
  · exact congrArg₂ (· * ·) (Finset.sum_congr rfl fun q _ => entry_input m c (i 0) f q) (weights_bottom _ _ f (i 2))

/-- Every execution ends with the result array at the layer and the arguments unchanged. -/
theorem run : θ_run defs (onTc (τ := τ) (main (F := Ideal))) ⟨m, fun _ => 0, ρ⟩ fun r => ∀ c : Dev nD,
      r.2.mem ((c : Thread nD τ).loc main_v3) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.KernelIdeal.Value.run_blocks m ρ)

end Cert.Layer

end
-- ==== Proof.Layer.Reference.lean ====
/-
  The reference's result at the ideal values, read at an index of the arguments.
-/
module

public import proofs.«01_k».proof.Proof.Gen.ReferenceIdeal.Run
public import proofs.«01_k».proof.Proof.Gen.ReferenceIdeal.Read

@[expose] public section

noncomputable section

namespace Cert.Layer

open Cert.ReferenceIdeal Cert.ReferenceIdeal.Read Idealize.ShloMosaic Idealize.ShloMosaic.ValueIdx

/-- The reference's result at sample `b`, particle `p`, output `o`: the particle's row against `lam`, less the sample's
    particle sums against `gam`, clamped at zero. -/
def referenceAt (x : S8192x512x64.Idx → EReal) (lam gam : S64x128.Idx → EReal) (b : Fin 8192) (p : Fin 512) (o : Fin 128) : EReal :=
  max ((∑ f : Fin 64, x (ix3 b p f) * lam (ix2 f o))
    - ∑ f : Fin 64, (∑ q : Fin 512, x (ix3 b q f)) * gam (ix2 f o)) 0

/-- The particle sums, at sample `b` and feature `f`. -/
theorem sums_apply (x : S8192x512x64.Idx → EReal) (i : S8192x64.Idx) :
    val_main_v1 (F := Ideal) x i = ∑ q : Fin 512, x (ix3 (i 0) q (i 1)) := by
  rw [val_main_v1_apply, val_main_cst_apply]
  refine ((congrArg (· + _) Ideal.ofBits_zero_f32).trans (zero_add (M := EReal) _)).trans ?_
  refine Finset.sum_congr rfl fun q _ => congrArg x (funext fun a => Fin.ext ?_)
  match a with
  | ⟨0, _⟩ => rfl
  | ⟨1, _⟩ => rfl
  | ⟨2, _⟩ => rfl

/-- The reference's composed term, read at an index. -/
theorem reference_apply (x : S8192x512x64.Idx → EReal) (lam gam : S64x128.Idx → EReal) (i : S8192x512x128.Idx) :
    val_main_v6 (F := Ideal) x lam gam i = referenceAt x lam gam (i 0) (i 1) (i 2) := by
  rw [val_main_v6_apply, val_main_v5_apply, val_main_v0_apply, val_main_v4_apply, val_main_v3_apply, val_main_v2_apply,
    val_main_call0_v0_apply, val_main_call0_cst_apply]
  unfold referenceAt
  refine congrArg₂ max (congrArg₂ (· - ·) (Finset.sum_congr rfl fun f _ => ?_) (Finset.sum_congr rfl fun f _ => ?_))
    Ideal.ofBits_zero_f32
  · refine congrArg₂ (· * ·) (congrArg x (funext fun a => Fin.ext ?_)) (congrArg lam (funext fun a => Fin.ext ?_))
    · match a with
      | ⟨0, _⟩ => rfl
      | ⟨1, _⟩ => rfl
      | ⟨2, _⟩ => rfl
    · match a with
      | ⟨0, _⟩ => rfl
      | ⟨1, _⟩ => rfl
  · rw [sums_apply]
    refine congrArg₂ (· * ·) (Finset.sum_congr rfl fun q _ => congrArg x (funext fun a => Fin.ext ?_))
      (congrArg gam (funext fun a => Fin.ext ?_))
    · match a with
      | ⟨0, _⟩ => rfl
      | ⟨1, _⟩ => rfl
      | ⟨2, _⟩ => rfl
    · match a with
      | ⟨0, _⟩ => rfl
      | ⟨1, _⟩ => rfl

end Cert.Layer

end
-- ==== Proof.Layer.Equation.lean ====
/-
  The equation: where every element of `x` and of `gam` is finite, the kernel's result and the reference's are equal at every
  index (`equation`).  The finiteness is read off the precondition's comparisons (`finite_of_compare`).
-/
module

public import Idealize.ShloMosaic.PureOps.Ideal.Laws
public import proofs.«01_k».proof.Pre_finite_x_gam
public import proofs.«01_k».proof.Proof.Layer.Algebra
public import proofs.«01_k».proof.Proof.Layer.Whole
public import proofs.«01_k».proof.Proof.Layer.Reference

@[expose] public section

noncomputable section

namespace Cert.Layer

open Idealize.ShloMosaic Idealize.ShloMosaic.ValueIdx

/-- The shape relations the precondition's operations take. -/
theorem preFacts : Cert.Pre_finite_x_gam.Facts := ⟨by decide, by decide⟩

/-- The word 0x7F800000 is infinity. -/
theorem infinity_word : Ideal.ofBits .f32 0x7F800000#32 = ⊤ := by simp [Ideal.ofBits, Ideal.ieee]

/-- An array every element of which compares, in absolute value, less than infinity has finite elements. -/
theorem finite_of_compare {s u : Shape} {dims : Fin u.rank → Fin s.rank} (h : u.BroadcastsInDim s dims) (x : FVec Ideal s .f32)
    (hx : cmpf .olt (Host.absf x) (broadcastInDim s dims h (constant u .f32 0x7F800000#32)) = fun _ => 1#1) (i : s.Idx) :
    Finite (x i) := by
  have hi : BitVec.ofBool (decide (max (x i : EReal) (-(x i : EReal)) < Ideal.ofBits .f32 0x7F800000#32)) = 1#1 := congrFun hx i
  rw [infinity_word] at hi
  refine finite_of_abs_lt ?_
  by_contra hn
  rw [decide_eq_false hn] at hi
  exact absurd hi (by decide)

/-- The kernel's result is the reference's at every index, for any `lam`. -/
theorem equation (x : Cert.KernelIdeal.S8192x512x64.Idx → EReal) (lam gam : Cert.KernelIdeal.S64x128.Idx → EReal)
    (hx : ∀ i, Finite (x i)) (hg : ∀ i, Finite (gam i)) (b : Fin 8192) (p : Fin 512) (o : Fin 128) :
    kernelAt x lam gam b p o = referenceAt x lam gam b p o :=
  congrArg (max · 0) (add_sum_mul_neg _ (fun f => ∑ q : Fin 512, x (ix3 b q f)) (fun f => gam (ix2 f o))
    (fun f => finite_sum _ _ fun q => hx (ix3 b q f)) fun f => hg (ix2 f o))

end Cert.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Layer.Equation
public import Idealize.ShloMosaic.Adequacy
public import Idealize.ShloMosaic.Init

@[expose] public section

noncomputable section

namespace Cert.Proof

open Idealize.ShloMosaic Idealize.SL.Sem

/-- The reference ends with its arguments unchanged and every counter at zero, from any memory. -/
theorem referenceFrame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- From memories that agree on the arguments, with `x` and `gam` finite, the kernel and the reference end with the same
    result: both hold `Cert.Layer.whole`, the kernel by its run and the reference by the equation at every index. -/
theorem algebraic : Cert.algebraic_KernelIdeal_ReferenceIdeal_pre_finite_x_gam (hKernelIdeal := Cert.KernelIdeal.Gen.facts)
    (hReferenceIdeal := Cert.ReferenceIdeal.Gen.facts) (hPre_finite_x_gam := Cert.Layer.preFacts) := by
  intro m g m' g' hpre hargs
  refine ⟨fun c => Cert.Layer.whole m c, Cert.Layer.run m g, ?_⟩
  refine (θ_run Cert.ReferenceIdeal.defs _ _).mono (fun r h c => ⟨(h c).1.trans ?_, (h c).2⟩)
    (Cert.ReferenceIdeal.Value.run (F := Ideal) m' g')
  obtain ⟨e0, e1, e2⟩ := hargs c
  rw [e0, e1, e2]
  refine (Cert.ReferenceIdeal.Read.val_main_v6_eq (F := Ideal) _ _ _).trans (funext fun i => ?_)
  refine (Cert.Layer.reference_apply _ _ _ i).trans (Eq.symm ((Cert.Layer.whole_apply m c i).trans ?_))
  exact Cert.Layer.equation _ _ _ (Cert.Layer.finite_of_compare _ _ (hpre c).1) (Cert.Layer.finite_of_compare _ _ (hpre c).2)
    (i 0) (i 1) (i 2)

/-- Every claim of the certificate. -/
theorem claim : Cert.Claim :=
  ⟨Cert.Kernel.Gen.facts, Cert.KernelIdeal.Gen.facts, Cert.ReferenceIdeal.Gen.facts, Cert.Layer.preFacts,
    fun m g _ => Cert.Kernel.Gen.frame m g, fun m g _ => Cert.KernelIdeal.Gen.frame m g,
    fun m g _ => Cert.KernelIdeal.Gen.frame m g, referenceFrame, fun m g _ => referenceFrame m g trivial, trivial, algebraic⟩

end Cert.Proof

end
